-- ==== Defs.lean ====
def Pre_Kernel [hPre_index_in_range : Cert.Pre_index_in_range.Facts] (m : (ℓ : Loc Cert.Kernel.nD Cert.Kernel.τ Cert.Kernel.sig) → Buf (Elt Bits) ℓ) : Prop :=
  ∀ c : Dev Cert.Kernel.nD,
    (Cert.Pre_index_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_index_in_range : Cert.Pre_index_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_in_range [hPre_index_in_range : Cert.Pre_index_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_index_in_range : Cert.Pre_index_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_index_in_range [hReferenceIdeal : Cert.ReferenceIdeal.Facts] [hPre_index_in_range : Cert.Pre_index_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_index_in_range : Cert.Pre_index_in_range.Facts),
    quiescent_Kernel (hKernel := hKernel) (hPre_index_in_range := hPre_index_in_range)
    ∧ quiescent_KernelIdeal (hKernelIdeal := hKernelIdeal) (hPre_index_in_range := hPre_index_in_range)
    ∧ quiescent_ReferenceIdeal (hReferenceIdeal := hReferenceIdeal)
    ∧ quiescent_ReferenceIdeal_pre_index_in_range (hReferenceIdeal := hReferenceIdeal) (hPre_index_in_range := hPre_index_in_range)
    ∧ preserves_Kernel_KernelIdeal
    ∧ algebraic_KernelIdeal_ReferenceIdeal (hKernelIdeal := hKernelIdeal) (hReferenceIdeal := hReferenceIdeal) (hPre_index_in_range := hPre_index_in_range)
-- ==== Pre_index_in_range.lean ====
abbrev S64x32768 : Shape := ⟨2, ![64, 32768]⟩
abbrev S64x2048 : Shape := ⟨2, ![64, 2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel

variable [Facts]

def fn {F : FTy → Type} [FloatOps F] (main_arg0 : FVec F S64x32768 .f32) (main_arg1 : FVec F S64x2048 .f32) (main_arg2 : IVec S64x2048 32) : IVec S_ 1 :=
  let main_c : IVec S_ 32 := constantI S_ 32 0#32
  let main_v0 : IVec S64x2048 32 := broadcastInDim S64x2048 ![] bcast_S_S64x2048 main_c
  let main_v1 : IVec S64x2048 1 := cmpi .sge main_arg2 main_v0
  let main_c_0 : IVec S_ 32 := constantI S_ 32 32768#32
  let main_v2 : IVec S64x2048 32 := broadcastInDim S64x2048 ![] bcast_S_S64x2048 main_c_0
  let main_v3 : IVec S64x2048 1 := cmpi .slt main_arg2 main_v2
  let main_v4 : IVec S64x2048 1 := andi main_v1 main_v3
  let main_c_1 : IVec S_ 1 := constantI S_ 1 1#1
  let main_v5 : IVec S_ 1 := (fun x v => Host.reduce IntOp.andi x v reducesTo_S64x2048_S_d0_1 h_S_) main_v4 main_c_1
  main_v5
-- ==== Kernel.lean ====
abbrev S64x32768 : Shape := ⟨2, ![64, 32768]⟩
abbrev S64x2048 : Shape := ⟨2, ![64, 2048]⟩
abbrev S32768 : Shape := ⟨1, ![32768]⟩
abbrev S2048 : Shape := ⟨1, ![2048]⟩
abbrev S_ : Shape := ⟨0, ![]⟩
abbrev S1x32768 : Shape := ⟨2, ![1, 32768]⟩
abbrev S1x2048 : Shape := ⟨2, ![1, 2048]⟩
abbrev S16 : Shape := ⟨1, ![16]⟩

abbrev nBuf : Table → Nat
  | .hbm => 4
  | .local .scVector .vmem => 3
  | _ => 0

abbrev bufTy : (tb : Table) → Fin (nBuf tb) → BufTy
  | .hbm, ⟨0, _⟩ => ⟨S64x32768, .f32⟩
  | .hbm, ⟨1, _⟩ => ⟨S64x2048, .f32⟩
  | .hbm, ⟨2, _⟩ => ⟨S64x2048, .i32⟩
  | .hbm, ⟨3, _⟩ => ⟨S64x2048, .f32⟩
  | .local .scVector .vmem, ⟨0, _⟩ => ⟨S32768, .f32⟩
  | .local .scVector .vmem, ⟨1, _⟩ => ⟨S2048, .i32⟩
  | .local .scVector .vmem, ⟨2, _⟩ => ⟨S2048, .f32⟩
  | _, _ => ⟨S64x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_11_r0 : BitVec 32 := 0#32
  ![v3.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_11_r1 : BitVec 32 := 0#32
  ![v3.toNat, 0]
@[reducible] def k0_t1_loop : Scf.Loop 32 :=
  let c0_i32_2 : BitVec 32 := 0#32
  let c128_i32 : BitVec 32 := 128#32
  let v4 : BitVec 32 := Scalar.addi c0_i32_2 c128_i32
  let c1_i32 : BitVec 32 := 1#32
  ⟨c0_i32_2, v4, c1_i32⟩
def k0_off3 (k0_t1 : Fin k0_t1_loop.trips) : Fin 1 → Nat :=
  let c0_i32_2 : BitVec 32 := 0#32
  let c1_i32 : BitVec 32 := 1#32
  let arg8 : BitVec 32 := Scf.iv c0_i32_2 c1_i32 k0_t1
  let c16_i32 : BitVec 32 := 16#32
  let v8 : BitVec 32 := Scalar.muli arg8 c16_i32
  let v9 : Index := Scalar.indexCast v8
  ![v9.toNat]

def k0_chk1 (v10 : IVec S16 32) : Prop :=
  (∀ a x, ((![v10] : Fin 1 → IVec S16 32) a x).toNat < S32768.size a)
theorem k0_idx1_inb : ∀ (v10 : IVec S16 32) (k0_hw1 : k0_chk1 v10), ∀ a x, ((![v10] : Fin 1 → IVec S16 32) a x).toNat < S32768.size a := fun v10 k0_hw1 => k0_hw1
def k0_off4 (k0_t1 : Fin k0_t1_loop.trips) : Fin 1 → Nat :=
  let c0_i32_2 : BitVec 32 := 0#32
  let c1_i32 : BitVec 32 := 1#32
  let arg8 : BitVec 32 := Scf.iv c0_i32_2 c1_i32 k0_t1
  let c16_i32_11 : BitVec 32 := 16#32
  let v12 : BitVec 32 := Scalar.muli arg8 c16_i32_11
  let v13 : Index := Scalar.indexCast v12
  ![v13.toNat]
@[reducible] def k0_t2_loop : Scf.Loop 32 :=
  let c0_i32_7 : BitVec 32 := 0#32
  let c128_i32_8 : BitVec 32 := 128#32
  let v7 : BitVec 32 := Scalar.addi c0_i32_7 c128_i32_8
  let c1_i32_9 : BitVec 32 := 1#32
  ⟨c0_i32_7, v7, c1_i32_9⟩
def k0_off5 (k0_t2 : Fin k0_t2_loop.trips) : Fin 1 → Nat :=
  let c0_i32_7 : BitVec 32 := 0#32
  let c1_i32_9 : BitVec 32 := 1#32
  let arg8 : BitVec 32 := Scf.iv c0_i32_7 c1_i32_9 k0_t2
  let c16_i32 : BitVec 32 := 16#32
  let v8 : BitVec 32 := Scalar.muli arg8 c16_i32
  let v9 : Index := Scalar.indexCast v8
  ![v9.toNat]

def k0_chk2 (v10 : IVec S16 32) : Prop :=
  (∀ a x, ((![v10] : Fin 1 → IVec S16 32) a x).toNat < S32768.size a)
theorem k0_idx2_inb : ∀ (v10 : IVec S16 32) (k0_hw2 : k0_chk2 v10), ∀ a x, ((![v10] : Fin 1 → IVec S16 32) a x).toNat < S32768.size a := fun v10 k0_hw2 => k0_hw2
def k0_off6 (k0_t2 : Fin k0_t2_loop.trips) : Fin 1 → Nat :=
  let c0_i32_7 : BitVec 32 := 0#32
  let c1_i32_9 : BitVec 32 := 1#32
  let arg8 : BitVec 32 := Scf.iv c0_i32_7 c1_i32_9 k0_t2
  let c16_i32_11 : BitVec 32 := 16#32
  let v12 : BitVec 32 := Scalar.muli arg8 c16_i32_11
  let v13 : Index := Scalar.indexCast v12
  ![v13.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x32768 : Shape := ⟨2, ![64, 32768]⟩
abbrev S64x2048 : Shape := ⟨2, ![64, 2048]⟩
abbrev S_ : Shape := ⟨0, ![]⟩
abbrev S64x2048x1 : Shape := ⟨3, ![64, 2048, 1]⟩
abbrev S1 : Shape := ⟨1, ![1]⟩
abbrev S1x1x1 : Shape := ⟨3, ![1, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S64x2048, .f32⟩
  | .hbm, ⟨2, _⟩ => ⟨S64x2048, .i32⟩
  | .hbm, ⟨3, _⟩ => ⟨S_, .i32⟩
  | .hbm, ⟨4, _⟩ => ⟨S64x2048, .i32⟩
  | .hbm, ⟨5, _⟩ => ⟨S64x2048, .i1⟩
  | .hbm, ⟨6, _⟩ => ⟨S_, .i32⟩
  | .hbm, ⟨7, _⟩ => ⟨S64x2048, .i32⟩
  | .hbm, ⟨8, _⟩ => ⟨S64x2048, .i32⟩
  | .hbm, ⟨9, _⟩ => ⟨S64x2048, .i32⟩
  | .hbm, ⟨10, _⟩ => ⟨S64x2048x1, .i32⟩
  | .hbm, ⟨11, _⟩ => ⟨S1, .i32⟩
  | .hbm, ⟨12, _⟩ => ⟨S_, .i32⟩
  | .hbm, ⟨13, _⟩ => ⟨S64x2048x1, .i32⟩
  | .hbm, ⟨14, _⟩ => ⟨S64x2048x1, .i1⟩
  | .hbm, ⟨15, _⟩ => ⟨S1x1x1, .i32⟩
  | .hbm, ⟨16, _⟩ => ⟨S64x2048x1, .i32⟩
  | .hbm, ⟨17, _⟩ => ⟨S64x2048x1, .i1⟩
  | .hbm, ⟨18, _⟩ => ⟨S64x2048x1, .i1⟩
  | .hbm, ⟨19, _⟩ => ⟨S_, .i1⟩
  | .hbm, ⟨20, _⟩ => ⟨S64x2048, .i1⟩
  | .hbm, ⟨21, _⟩ => ⟨S64x2048, .f32⟩
  | .hbm, ⟨22, _⟩ => ⟨S_, .f32⟩
  | .hbm, ⟨23, _⟩ => ⟨S64x2048, .f32⟩
  | .hbm, ⟨24, _⟩ => ⟨S64x2048, .f32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.KernelIdealTile.lean ====
/-
  What one vector subcore does in `KernelIdeal`, at any float instance: the task at grid coordinates `L` takes two rows of
  `x` and of `index` one after the other, gathers each row's elements at the row's indices and writes them to the same
  row of the result. `tile_body` states it with the values: from the two rows of `x`, `index` and the result held
  outright, the task ends holding the same rows, the result's at `G`, the gather of the launch contents.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' ghost state, and beside it the counters the local copies complete on. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch buffers -/

variable (m : (ℓ : Loc nD τ sig) → Buf (Elt F) ℓ)

abbrev xLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_arg2
abbrev oLoc (d : Dev nD) : Loc nD τ sig := (SparseCore.T d).loc main_v0

-- the arrays and the scratch buffers, spelt as the program passes them
local notation "xW" => (Memref.whole Cert.KernelIdeal.main_arg0_scv : Memref Cert.KernelIdeal.sig Kind.scVector Space.hbm Cert.KernelIdeal.S64x32768 EltTy.f32)
local notation "iW" => (Memref.whole Cert.KernelIdeal.main_arg2_scv : Memref Cert.KernelIdeal.sig Kind.scVector Space.hbm Cert.KernelIdeal.S64x2048 EltTy.i32)
local notation "oW" => (Memref.whole Cert.KernelIdeal.main_v0_scv : Memref Cert.KernelIdeal.sig Kind.scVector Space.hbm Cert.KernelIdeal.S64x2048 EltTy.f32)
local notation "xS" => (Memref.whole Cert.KernelIdeal.cc0_scratch0 : Memref Cert.KernelIdeal.sig Kind.scVector Space.vmem Cert.KernelIdeal.S32768 EltTy.f32)
local notation "iS" => (Memref.whole Cert.KernelIdeal.cc0_scratch1 : Memref Cert.KernelIdeal.sig Kind.scVector Space.vmem Cert.KernelIdeal.S2048 EltTy.i32)
local notation "oS" => (Memref.whole Cert.KernelIdeal.cc0_scratch2 : Memref Cert.KernelIdeal.sig Kind.scVector Space.vmem Cert.KernelIdeal.S2048 EltTy.f32)

/-- What the proof asks of the launch memory: every word of `index` names a column of `x`. -/
def PreOK : Prop := ∀ (d : Dev nD) (j : S64x2048.Idx), (m (iLoc d) j).toNat < 32768

/-- The element of a row of `x` a word names (a word out of range, which the precondition excludes, wraps). -/
def col (w : BitVec 32) : S32768.Idx := fun
  | 0 => ⟨w.toNat % 32768, Nat.mod_lt w.toNat (show 0 < 32768 by decide)⟩

/-- The element of `x` that word `w` names in row `b`. -/
def cell (b : Fin 64) (w : BitVec 32) : S64x32768.Idx := fun
  | 0 => b
  | 1 => ⟨w.toNat % 32768, Nat.mod_lt w.toNat (show 0 < 32768 by decide)⟩

/-- One row gathered: element `j` is the row's element that index `j` names. -/
def gath (fx : S32768.Idx → Elt F .f32) (fi : S2048.Idx → Elt F .i32) : S2048.Idx → Elt F .f32 := fun j => fx (col (fi j))

/-- The whole result: element `(b, k)` is `x` at `(b, index (b, k))`. -/
def G (d : Dev nD) : Buf (Elt F) (oLoc d) := fun j => m (xLoc d) (cell (j 0) (m (iLoc d) j))

/-! ## The rows -/

theorem hdivX : 64 ∣ S64x32768.size 0 := ⟨1, rfl⟩
theorem hdivI : 64 ∣ S64x2048.size 0 := ⟨1, rfl⟩
abbrev xRow (b : Fin 64) : Rect S64x32768 := Rect.part (s := S64x32768) (a₀ := 0) hdivX b
abbrev iRow (b : Fin 64) : Rect S64x2048 := Rect.part (s := S64x2048) (a₀ := 0) hdivI b

abbrev xRowPts (d : Dev nD) (b : Fin 64) : sProp 𝕄 := xLoc d ↦[(xRow b).set]{fullShare} m (xLoc d)
abbrev iRowPts (d : Dev nD) (b : Fin 64) : sProp 𝕄 := iLoc d ↦[(iRow b).set]{fullShare} m (iLoc d)
abbrev oRowPts (d : Dev nD) (b : Fin 64) (f : Buf (Elt F) (oLoc d)) : sProp 𝕄 := oLoc d ↦[(iRow b).set]{fullShare} f

/-- Row number `r` of the two that the task on subcore `s` of SparseCore `c` takes. -/
def rowOf (c : Fin 2) (s : Fin 16) (r : Fin 2) : Fin 64 := ⟨4 * s.val + 2 * c.val + r.val, by omega⟩

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev bL (L : grid0.Coords) (r : Fin 2) : Fin 64 := rowOf (Fin.cast bound_zero (L 0)) (Fin.cast bound_one (L 1)) r

-- row `r` of the task's two, as the program addresses it
abbrev xK (L : grid0.Coords) (r : Fin 2) : Rect S64x32768 := Rect.unit (s := S64x32768) (k0_off1 L (BitVec.ofNat 32 r.val)) S1x32768.size (k0_off1_inb L r)
abbrev iK (L : grid0.Coords) (r : Fin 2) : Rect S64x2048 := Rect.unit (s := S64x2048) (k0_off2 L (BitVec.ofNat 32 r.val)) S1x2048.size (k0_off2_inb L r)
abbrev xRowK (L : grid0.Coords) (r : Fin 2) : Memref sig .scVector .hbm S32768 .f32 := ((xW).slice (xK L r) (fun _ => rfl)).squeeze S32768 squeezes_S1x32768_S32768
abbrev iRowK (L : grid0.Coords) (r : Fin 2) : Memref sig .scVector .hbm S2048 .i32 := ((iW).slice (iK L r) (fun _ => rfl)).squeeze S2048 squeezes_S1x2048_S2048
abbrev oRowK (L : grid0.Coords) (r : Fin 2) : Memref sig .scVector .hbm S2048 .f32 := ((oW).slice (iK L r) (fun _ => rfl)).squeeze S2048 squeezes_S1x2048_S2048

theorem xK_eq (r : Fin 2) : xK L r = xRow (bL L r) := by
  unfold xK xRow Rect.part Rect.block
  congr 1 <;> funext a
  · rw [k0_off1_eq]
    match a with
    | 0 => simp [Shape.partIx, Shape.partSize, rowOf]; rfl
    | 1 => simp [Shape.partIx, Shape.partSize]
  · match a with
    | 0 => simp [Shape.partSize]
    | 1 => simp [Shape.partSize]

theorem iK_eq (r : Fin 2) : iK L r = iRow (bL L r) := by
  unfold iK iRow Rect.part Rect.block
  congr 1 <;> funext a
  · rw [k0_off2_eq]
    match a with
    | 0 => simp [Shape.partIx, Shape.partSize, rowOf]; rfl
    | 1 => simp [Shape.partIx, Shape.partSize]
  · match a with
    | 0 => simp [Shape.partSize]
    | 1 => simp [Shape.partSize]

theorem set_xRowK (r : Fin 2) : (xRowK L r).view.set = (xRow (bL L r)).set := by
  show (((xW).view.slice (xK L r)).reshape S32768 squeezes_S1x32768_S32768.numel_eq).set = _
  rw [View.set_reshape, View.set_slice, ← xK_eq]; exact Finset.map_refl
theorem set_iRowK (r : Fin 2) : (iRowK L r).view.set = (iRow (bL L r)).set := by
  show (((iW).view.slice (iK L r)).reshape S2048 squeezes_S1x2048_S2048.numel_eq).set = _
  rw [View.set_reshape, View.set_slice, ← iK_eq]; exact Finset.map_refl
theorem set_oRowK (r : Fin 2) : (oRowK L r).view.set = (iRow (bL L r)).set := by
  show (((oW).view.slice (iK L r)).reshape S2048 squeezes_S1x2048_S2048.numel_eq).set = _
  rw [View.set_reshape, View.set_slice, ← iK_eq]; exact Finset.map_refl

theorem pts_xRowK (r : Fin 2) (f : Buf (Elt F) (xLoc d)) :
    ((xRowK L r).view.loc (V d (cV L) (jV L)) ↦[(xRowK L r).view.set]{fullShare} f : sProp 𝕄) = xLoc d ↦[(xRow (bL L r)).set]{fullShare} f := by
  rw [set_xRowK]
theorem pts_iRowK (r : Fin 2) (f : Buf (Elt F) (iLoc d)) :
    ((iRowK L r).view.loc (V d (cV L) (jV L)) ↦[(iRowK L r).view.set]{fullShare} f : sProp 𝕄) = iLoc d ↦[(iRow (bL L r)).set]{fullShare} f := by
  rw [set_iRowK]
theorem pts_oRowK (r : Fin 2) (f : Buf (Elt F) (oLoc d)) :
    ((oRowK L r).view.loc (V d (cV L) (jV L)) ↦[(oRowK L r).view.set]{fullShare} f : sProp 𝕄) = oLoc d ↦[(iRow (bL L r)).set]{fullShare} f := by
  rw [set_oRowK]

-- the same two rows' sets with the row's number spelled as a word
theorem back_x (r : Fin 2) (w : BitVec 32) (hw : BitVec.ofNat 32 r.val = w) (inb : ∀ a, k0_off1 L w a + S1x32768.size a ≤ S64x32768.size a) (f : Buf (Elt F) (xLoc d)) :
    ((xRowK L r).view.loc (V d (cV L) (jV L)) ↦[(((xW).slice (Rect.unit (s := S64x32768) (k0_off1 L w) S1x32768.size inb) (fun _ => rfl)).squeeze S32768 squeezes_S1x32768_S32768).view.set]{fullShare} f : sProp 𝕄)
      = xLoc d ↦[(xRow (bL L r)).set]{fullShare} f := by
  subst hw; exact pts_xRowK d L r f
theorem back_i (r : Fin 2) (w : BitVec 32) (hw : BitVec.ofNat 32 r.val = w) (inb : ∀ a, k0_off2 L w a + S1x2048.size a ≤ S64x2048.size a) (f : Buf (Elt F) (iLoc d)) :
    ((iRowK L r).view.loc (V d (cV L) (jV L)) ↦[(((iW).slice (Rect.unit (s := S64x2048) (k0_off2 L w) S1x2048.size inb) (fun _ => rfl)).squeeze S2048 squeezes_S1x2048_S2048).view.set]{fullShare} f : sProp 𝕄)
      = iLoc d ↦[(iRow (bL L r)).set]{fullShare} f := by
  subst hw; exact pts_iRowK d L r f

theorem pts_xS (f : Buf (Elt F) ((V d (cV L) (jV L)).loc cc0_scratch0)) :
    ((xS).view.loc (V d (cV L) (jV L)) ↦{fullShare} f : sProp 𝕄) = (V d (cV L) (jV L)).loc cc0_scratch0 ↦{fullShare} f := rfl
theorem pts_xS_access (f : Buf (Elt F) ((V d (cV L) (jV L)).loc cc0_scratch0)) :
    ((xS).view.loc (V d (cV L) (jV L)) ↦{fullShare} f : sProp 𝕄)
      = ((xS).access (.whole S32768)).loc (V d (cV L) (jV L)) ↦{fullShare} f := rfl
theorem pts_iS (f : Buf (Elt F) ((V d (cV L) (jV L)).loc cc0_scratch1)) :
    ((iS).view.loc (V d (cV L) (jV L)) ↦{fullShare} f : sProp 𝕄) = (V d (cV L) (jV L)).loc cc0_scratch1 ↦{fullShare} f := rfl
theorem pts_oS (f : Buf (Elt F) ((V d (cV L) (jV L)).loc cc0_scratch2)) :
    ((oS).view.loc (V d (cV L) (jV L)) ↦{fullShare} f : sProp 𝕄) = (V d (cV L) (jV L)).loc cc0_scratch2 ↦{fullShare} f := rfl

/-! ## A subcore's own semaphores and buffers, split off -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)
abbrev cell4 (d : Dev nD) (c : Fin τ.nSC) (i : Fin τ.nSub) : GSem nD τ sig := (V d c i, .dma cc0_scoped4.sem)
abbrev cell5 (d : Dev nD) (c : Fin τ.nSC) (i : Fin τ.nSub) : GSem nD τ sig := (V d c i, .dma cc0_scoped5.sem)

/-- The six cells the task's copies complete on. -/
abbrev six (d : Dev nD) (c : Fin τ.nSC) (i : Fin τ.nSub) : Finset (GSem nD τ sig) :=
  {cell0 d c i, cell1 d c i, cell2 d c i, cell3 d c i, cell4 d c i, cell5 d c i}

theorem sem_ne {a b : DmaSem sig} (h : a ≠ b) (t : Thread nD τ) : ((t, .dma a) : GSem nD τ sig) ≠ (t, .dma b) :=
  fun e => h (SemLoc.dma.inj (Prod.mk.inj e).2)

theorem six_own : six d (cV L) (jV L) ⊆ ownCells (V d (cV L) (jV L)) := by
  intro g hg
  simp only [Finset.mem_insert, Finset.mem_singleton] at hg
  rcases hg with rfl | rfl | rfl | rfl | rfl | rfl
  · exact mem_ownCells.mpr ⟨rfl, show (SemLoc.dma cc0_scoped0.sem : SemLoc sig).isScoped .scVector = true by decide⟩
  · exact mem_ownCells.mpr ⟨rfl, show (SemLoc.dma cc0_scoped1.sem : SemLoc sig).isScoped .scVector = true by decide⟩
  · exact mem_ownCells.mpr ⟨rfl, show (SemLoc.dma cc0_scoped2.sem : SemLoc sig).isScoped .scVector = true by decide⟩
  · exact mem_ownCells.mpr ⟨rfl, show (SemLoc.dma cc0_scoped3.sem : SemLoc sig).isScoped .scVector = true by decide⟩
  · exact mem_ownCells.mpr ⟨rfl, show (SemLoc.dma cc0_scoped4.sem : SemLoc sig).isScoped .scVector = true by decide⟩
  · exact mem_ownCells.mpr ⟨rfl, show (SemLoc.dma cc0_scoped5.sem : SemLoc sig).isScoped .scVector = true by decide⟩

theorem ownSems0_V :
    (ownSems0 (V d (cV L) (jV L)) : sProp 𝕄)
      = iprop((semVal (cell0 d (cV L) (jV L)) 0 ∗ semVal (cell1 d (cV L) (jV L)) 0 ∗ semVal (cell2 d (cV L) (jV L)) 0
          ∗ semVal (cell3 d (cV L) (jV L)) 0 ∗ semVal (cell4 d (cV L) (jV L)) 0 ∗ semVal (cell5 d (cV L) (jV L)) 0)
          ∗ bigSep (ownCells (V d (cV L) (jV L)) \ six d (cV L) (jV L)) fun g => semVal g 0) := by
  unfold SparseCore.Cfg.ownSems0
  rw [SparseCore.bigSep_sdiff_split' (six_own d L)]
  have n {a b : DmaSem sig} (h : a ≠ b) := sem_ne h (V d (cV L) (jV L))
  have h01 := n (show cc0_scoped0.sem ≠ cc0_scoped1.sem by decide)
  have h02 := n (show cc0_scoped0.sem ≠ cc0_scoped2.sem by decide)
  have h03 := n (show cc0_scoped0.sem ≠ cc0_scoped3.sem by decide)
  have h04 := n (show cc0_scoped0.sem ≠ cc0_scoped4.sem by decide)
  have h05 := n (show cc0_scoped0.sem ≠ cc0_scoped5.sem by decide)
  have h12 := n (show cc0_scoped1.sem ≠ cc0_scoped2.sem by decide)
  have h13 := n (show cc0_scoped1.sem ≠ cc0_scoped3.sem by decide)
  have h14 := n (show cc0_scoped1.sem ≠ cc0_scoped4.sem by decide)
  have h15 := n (show cc0_scoped1.sem ≠ cc0_scoped5.sem by decide)
  have h23 := n (show cc0_scoped2.sem ≠ cc0_scoped3.sem by decide)
  have h24 := n (show cc0_scoped2.sem ≠ cc0_scoped4.sem by decide)
  have h25 := n (show cc0_scoped2.sem ≠ cc0_scoped5.sem by decide)
  have h34 := n (show cc0_scoped3.sem ≠ cc0_scoped4.sem by decide)
  have h35 := n (show cc0_scoped3.sem ≠ cc0_scoped5.sem by decide)
  have h45 := n (show cc0_scoped4.sem ≠ cc0_scoped5.sem by decide)
  rw [SparseCore.bigSep_insert' (by simp only [Finset.mem_insert, Finset.mem_singleton, not_or]; exact ⟨h01, h02, h03, h04, h05⟩),
    SparseCore.bigSep_insert' (by simp only [Finset.mem_insert, Finset.mem_singleton, not_or]; exact ⟨h12, h13, h14, h15⟩),
    SparseCore.bigSep_insert' (by simp only [Finset.mem_insert, Finset.mem_singleton, not_or]; exact ⟨h23, h24, h25⟩),
    SparseCore.bigSep_insert' (by simp only [Finset.mem_insert, Finset.mem_singleton, not_or]; exact ⟨h34, h35⟩),
    SparseCore.bigSep_insert' (by simp only [Finset.mem_singleton]; exact h45), bigSep_singleton]

/-- The three scratch buffers of a subcore, as buffers of its device. -/
abbrev three (c : Fin τ.nSC) (i : Fin τ.nSub) : Finset (DevRef τ sig) :=
  {(Proc.scVector c i).devRef cc0_scratch0, (Proc.scVector c i).devRef cc0_scratch1, (Proc.scVector c i).devRef cc0_scratch2}

theorem three_own : three (cV L) (jV L) ⊆ ownRefs (τ := τ) (.scVector (cV L) (jV L)) := by
  intro b hb
  simp only [Finset.mem_insert, Finset.mem_singleton] at hb
  rcases hb with rfl | rfl | rfl <;> exact SparseCore.Cfg.mem_ownRefs_of_owner (p := Proc.scVector (cV L) (jV L)) rfl

theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f))
          ∗ bigSep (ownRefs (τ := τ) (.scVector (cV L) (jV L)) \ three (cV L) (jV L))
              fun b => iprop(∃ f, ((d, b) : Loc nD τ sig) ↦{fullShare} f)) := by
  unfold SparseCore.Cfg.ownBufs
  refine (SparseCore.bigSep_sdiff_split' (three_own L)).trans ?_
  have n {a b : Ref sig .scVector} (h : a ≠ b) : (Proc.scVector (cV L) (jV L)).devRef a ≠ (Proc.scVector (cV L) (jV L)).devRef b :=
    fun e => absurd (Proc.devRef_injective _ e) h
  rw [SparseCore.bigSep_insert' (by
      simp only [Finset.mem_insert, Finset.mem_singleton, not_or]
      exact ⟨n (show (cc0_scratch0 : Ref sig .scVector) ≠ cc0_scratch1 by decide), n (show (cc0_scratch0 : Ref sig .scVector) ≠ cc0_scratch2 by decide)⟩),
    SparseCore.bigSep_insert' (by
      simp only [Finset.mem_singleton]; exact n (show (cc0_scratch1 : Ref sig .scVector) ≠ cc0_scratch2 by decide)), bigSep_singleton]

/-! ## The values -/

/-- Where element `j` of the task's row `r` of `x` lies. -/
theorem xRowK_emb (r : Fin 2) (j : S32768.Idx) (w : BitVec 32) (h : j = col w) : (xRowK L r).view.emb j = cell (bL L r) w := by
  subst h
  show (xK L r).emb (Shape.reshapeEquiv _ (col w)) = _
  rw [Shape.reshapeEquiv_cons_one]
  funext a; apply Fin.ext
  rw [Rect.emb_apply]
  match a with
  | 0 => show k0_off1 L (BitVec.ofNat 32 r.val) 0 + 1 * 0 = _; rw [k0_off1_eq]; rfl
  | 1 => show k0_off1 L (BitVec.ofNat 32 r.val) 1 + 1 * (w.toNat % 32768) = _; rw [k0_off1_eq]; simp [cell]

/-- Row `r` of `index` and row `r` of the result lie at the same places, in row `bL L r` of their arrays. -/
theorem oRowK_emb_zero (r : Fin 2) (j : S2048.Idx) : (oRowK L r).view.emb j 0 = bL L r := by
  show (iK L r).emb (Shape.reshapeEquiv _ j) 0 = _
  rw [Shape.reshapeEquiv_cons_one]
  apply Fin.ext
  rw [Rect.emb_apply]
  show k0_off2 L (BitVec.ofNat 32 r.val) 0 + 1 * 0 = _; rw [k0_off2_eq]; rfl

/-- The task's row `r` of `x` and of `index` at the launch, as its copies bring them in. -/
abbrev fxK (r : Fin 2) : S32768.Idx → Elt F .f32 := (xRowK L r).view.read (Elt F) (m (xLoc d))
abbrev fiK (r : Fin 2) : S2048.Idx → Elt F .i32 := (iRowK L r).view.read (Elt F) (m (iLoc d))

/-- The gathered row is row `r` of `G`. -/
theorem gath_eq (r : Fin 2) (j : S2048.Idx) : gath (fxK m d L r) (fiK m d L r) j = G m d ((oRowK L r).view.emb j) := by
  show m (xLoc d) ((xRowK L r).view.emb (col (m (iLoc d) ((iRowK L r).view.emb j)))) = _
  rw [xRowK_emb L r _ _ rfl]
  unfold G
  rw [oRowK_emb_zero]
  rfl

/-- Written to the result's row `r`, the gathered row is that row of `G`, whatever the row held. -/
theorem pts_out (r : Fin 2) (f : Buf (Elt F) (oLoc d)) (g : S2048.Idx → Elt F .f32) (hg : ∀ j, g j = gath (fxK m d L r) (fiK m d L r) j) :
    ((oRowK L r).view.loc (V d (cV L) (jV L)) ↦[(oRowK L r).view.set]{fullShare}
        (oRowK L r).view.writes (Elt F) f [⟨Rect.whole S2048, g⟩] : sProp 𝕄) = oRowPts d (bL L r) (G m d) := by
  refine Eq.trans ?_ (pts_oRowK d L r (G m d))
  refine pointsTo_congr fun i hi => ?_
  obtain ⟨j, -, rfl⟩ := Finset.mem_map.mp hi
  rw [View.writes_singleton,
    show (oRowK L r).view.emb j = ((oRowK L r).view.slice (Rect.whole S2048)).emb j from
      congrArg (oRowK L r).view.emb (Rect.emb_whole_apply S2048 j).symm,
    View.write_emb_of_mem _ _ (Finset.mem_univ j)]
  refine (hg j).trans ((gath_eq m d L r j).trans ?_)
  exact congrArg (fun y => G m d ((oRowK L r).view.emb y)) (Rect.emb_whole_apply S2048 j).symm

/-- One trip more: sixteen further elements of the gathered row, written through the trip's window. -/
theorem trip_step (fx : S32768.Idx → Elt F .f32) (fi : S2048.Idx → Elt F .i32) (f : S2048.Idx → Elt F .f32) (k : Nat)
    {off : Fin 1 → Nat} (inb : ∀ a, off a + S16.size a ≤ S2048.size a) (hoff : off = ![16 * k])
    (w : S16.Idx → Elt F .f32) (hw : ∀ x : S16.Idx, w x = gath fx fi ((Rect.unit (s := S2048) off S16.size inb).emb x))
    (hf : ∀ j : S2048.Idx, (j 0).val < 16 * k → f j = gath fx fi j) :
    ∀ j : S2048.Idx, (j 0).val < 16 * (k + 1) →
      ((oS).view.slice (Rect.unit (s := S2048) off S16.size inb)).write (Elt F) f w Finset.univ j = gath fx fi j := by
  intro j hj
  by_cases hm : j ∈ (Rect.unit (s := S2048) off S16.size inb).set
  · rw [← Rect.map_emb_univ] at hm
    obtain ⟨x, -, rfl⟩ := Finset.mem_map.mp hm
    exact (View.read_slice_write_emb (v := (oS).view) _ f w (Finset.mem_univ x)).trans (hw x)
  · refine (View.read_slice_write_of_not_mem (v := (oS).view) _ f w Finset.univ (by rwa [Rect.map_emb_univ])).trans (hf j ?_)
    by_contra hk
    refine hm (Rect.mem_set_unit.mpr fun a => ?_)
    obtain rfl : a = 0 := Subsingleton.elim _ _
    subst hoff
    exact ⟨not_lt.mp hk, by show _ < 16 * k + 16; omega⟩

/-- The indexed load of the row scratch, at sixteen indices of the index scratch: sixteen elements of the gathered row. -/
theorem load_gath (fx : S32768.Idx → Elt F .f32) (fi : S2048.Idx → Elt F .i32) (hfi : ∀ j, (fi j : BitVec 32).toNat < 32768)
    {off off' : Fin 1 → Nat} (inb : ∀ a, off a + S16.size a ≤ S2048.size a) (inb' : ∀ a, off' a + S16.size a ≤ S2048.size a)
    (h : off = off')
    (hidx : ∀ a x, ((![(iS).view.readAt (Elt F) (Rect.unit (s := S2048) off S16.size inb).toLoadRect fi] : Fin 1 → IVec S16 32) a x).toNat < S32768.size a)
    (x : S16.Idx) :
    loadIdx (((xS).access (.whole S32768)).read (Elt F) fx)
        ![(iS).view.readAt (Elt F) (Rect.unit (s := S2048) off S16.size inb).toLoadRect fi] hidx x
      = gath fx fi ((Rect.unit (s := S2048) off' S16.size inb').emb x) := by
  subst h
  show fx ((Rect.whole S32768).emb (idxAt _ hidx x)) = fx _
  rw [Rect.emb_whole_apply]
  refine congrArg fx (funext fun a => ?_)
  obtain rfl : a = 0 := Subsingleton.elim (α := Fin 1) _ _
  exact Fin.ext (Nat.mod_eq_of_lt (hfi _)).symm

/-- The loop's invariant after `k` trips: the two scratch rows as the copies left them, and the first `16 k` elements of
    the third scratch gathered. -/
def inv (fx : S32768.Idx → Elt F .f32) (fi : S2048.Idx → Elt F .i32) (k : Nat) (_ : PUnit) : sProp 𝕄 :=
  iprop(((xS).view.loc (V d (cV L) (jV L)) ↦{fullShare} fx)
    ∗ ((iS).view.loc (V d (cV L) (jV L)) ↦{fullShare} fi)
    ∗ ∃ f : S2048.Idx → Elt F .f32, ⌜∀ j : S2048.Idx, (j 0).val < 16 * k → f j = gath fx fi j⌝
        ∗ ((oS).view.loc (V d (cV L) (jV L)) ↦{fullShare} f))

variable [FloatOps F]

set_option maxHeartbeats 4000000 in
/-- One trip of the first row's loop. -/
theorem trip_first (fx : S32768.Idx → Elt F .f32) (fi : S2048.Idx → Elt F .i32) (hfi : ∀ j, (fi j : BitVec 32).toNat < 32768)
    (k : Fin k0_t1_loop.trips) :
    inv d L fx fi k.val PUnit.unit
      ⊢ wp frame (wpE (defs₀ (F := F)) 𝒱₀ (V d (cV L) (jV L)) none) Set.univ
          (k0_t1_body (F := F) L xW (Memref.isWhole_whole _) iW (Memref.isWhole_whole _) oW (Memref.isWhole_whole _)
            xS (Memref.isWhole_whole _) iS (Memref.isWhole_whole _) oS (Memref.isWhole_whole _)
            cc0_scoped0 cc0_scoped1 cc0_scoped2 cc0_scoped3 cc0_scoped4 cc0_scoped5 k PUnit.unit)
          fun s => inv d L fx fi (k.val + 1) s := by
  unfold inv k0_t1_body
  iintro ⟨Hx, Hi, %f, %hf, Ho⟩
  sl_exec
  rw [wp_assume_of _ _ _ _ (show k0_chk1 (View.readAt (Elt F) (iS).view (Rect.unit (s := S2048) (k0_off3 k) S16.size (k0_off3_inb k)).toLoadRect fi) from
    fun a x => by obtain rfl : a = 0 := Subsingleton.elim _ _; exact hfi _)]
  ihave Hx := (Entails.of_eq (pts_xS_access (F := F) d L _).symm) $$ Hx
  iapply (SparseCore.wp_vectorLoadIdx 𝒱₀ (V d (cV L) (jV L)) none Set.univ (base := xS) (S := Finset.univ) (q := fullShare) (Finset.subset_univ _)) $$ Hx; iintro Hx
  ihave Hx := (Entails.of_eq (pts_xS_access (F := F) d L _)) $$ Hx
  sl_exec
  rw [wp_ret]; imodintro
  isplitl [Hx]; · iexact Hx
  isplitl [Hi]; · iexact Hi
  iexists _
  isplitr
  rotate_left
  · iexact Ho
  ipureintro
  rw [View.writes_singleton]
  exact trip_step fx fi f k.val (k0_off4_inb k) (k0_off4_eq k) _ (load_gath fx fi hfi _ _ ((k0_off3_eq k).trans (k0_off4_eq k).symm) _) hf

set_option maxHeartbeats 4000000 in
/-- One trip of the second row's loop. -/
theorem trip_second (fx : S32768.Idx → Elt F .f32) (fi : S2048.Idx → Elt F .i32) (hfi : ∀ j, (fi j : BitVec 32).toNat < 32768)
    (k : Fin k0_t2_loop.trips) :
    inv d L fx fi k.val PUnit.unit
      ⊢ wp frame (wpE (defs₀ (F := F)) 𝒱₀ (V d (cV L) (jV L)) none) Set.univ
          (k0_t2_body (F := F) L xW (Memref.isWhole_whole _) iW (Memref.isWhole_whole _) oW (Memref.isWhole_whole _)
            xS (Memref.isWhole_whole _) iS (Memref.isWhole_whole _) oS (Memref.isWhole_whole _)
            cc0_scoped0 cc0_scoped1 cc0_scoped2 cc0_scoped3 cc0_scoped4 cc0_scoped5 k PUnit.unit)
          fun s => inv d L fx fi (k.val + 1) s := by
  unfold inv k0_t2_body
  iintro ⟨Hx, Hi, %f, %hf, Ho⟩
  sl_exec
  rw [wp_assume_of _ _ _ _ (show k0_chk2 (View.readAt (Elt F) (iS).view (Rect.unit (s := S2048) (k0_off5 k) S16.size (k0_off5_inb k)).toLoadRect fi) from
    fun a x => by obtain rfl : a = 0 := Subsingleton.elim _ _; exact hfi _)]
  ihave Hx := (Entails.of_eq (pts_xS_access (F := F) d L _).symm) $$ Hx
  iapply (SparseCore.wp_vectorLoadIdx 𝒱₀ (V d (cV L) (jV L)) none Set.univ (base := xS) (S := Finset.univ) (q := fullShare) (Finset.subset_univ _)) $$ Hx; iintro Hx
  ihave Hx := (Entails.of_eq (pts_xS_access (F := F) d L _)) $$ Hx
  sl_exec
  rw [wp_ret]; imodintro
  isplitl [Hx]; · iexact Hx
  isplitl [Hi]; · iexact Hi
  iexists _
  isplitr
  rotate_left
  · iexact Ho
  ipureintro
  rw [View.writes_singleton]
  exact trip_step fx fi f k.val (k0_off6_inb k) (k0_off6_eq k) _ (load_gath fx fi hfi _ _ ((k0_off5_eq k).trans (k0_off6_eq k).symm) _) hf

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ ((xRowPts m d (bL L 0) ∗ iRowPts m d (bL L 0) ∗ oRowPts d (bL L 0) (m (oLoc d)))
          ∗ (xRowPts m d (bL L 1) ∗ iRowPts m d (bL L 1) ∗ oRowPts d (bL L 1) (m (oLoc d))))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L xW (Memref.isWhole_whole _) iW (Memref.isWhole_whole _) oW (Memref.isWhole_whole _)
            xS (Memref.isWhole_whole _) iS (Memref.isWhole_whole _) oS (Memref.isWhole_whole _)
            cc0_scoped0 cc0_scoped1 cc0_scoped2 cc0_scoped3 cc0_scoped4 cc0_scoped5)
          fun _ => iprop(((xRowPts m d (bL L 0) ∗ iRowPts m d (bL L 0) ∗ oRowPts d (bL L 0) (G m d))
              ∗ (xRowPts m d (bL L 1) ∗ iRowPts m d (bL L 1) ∗ oRowPts d (bL L 1) (G m d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  simp only [k0_part1_eq_skeleton]; unfold k0_part1_skel
  simp only [bind_assoc]
  rw [(K (F := F)).scopedBufs_V hF d (cV L) (jV L), SparseCore.Cfg.scopedSems0_V (Val := Elt F) d (cV L) (jV L), ownSems0_V, ownBufs_V]
  iintro ⟨#Hlv, -, ⟨⟨Hx0, Hi0, Ho0⟩, Hx1, Hi1, Ho1⟩, ⟨⟨⟨%fx, Hx⟩, ⟨%fi, Hi⟩, %fo, Ho⟩, Hbufs⟩,
    ⟨⟨Hsem0, Hsem1, Hsem2, Hsem3, Hsem4, Hsem5⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx0' := (Entails.of_eq (pts_xRowK (F := F) d L 0 _).symm) $$ Hx0
  ihave Hx1' := (Entails.of_eq (pts_xRowK (F := F) d L 1 _).symm) $$ Hx1
  ihave Hi0' := (Entails.of_eq (pts_iRowK (F := F) d L 0 _).symm) $$ Hi0
  ihave Hi1' := (Entails.of_eq (pts_iRowK (F := F) d L 1 _).symm) $$ Hi1
  ihave Ho0' := (Entails.of_eq (pts_oRowK (F := F) d L 0 _).symm) $$ Ho0
  ihave Ho1' := (Entails.of_eq (pts_oRowK (F := F) d L 1 _).symm) $$ Ho1
  ihave Hx' := (Entails.of_eq (pts_xS (F := F) d L _).symm) $$ Hx
  ihave Hi' := (Entails.of_eq (pts_iS (F := F) d L _).symm) $$ Hi
  ihave Ho' := (Entails.of_eq (pts_oS (F := F) d L _).symm) $$ Ho
  sl_exec
  sl_for (inv d L (fxK m d L 0) (fiK m d L 0)) $$ [Hx' Hi' Ho']
  case region => exact fun k _ => trip_first d L _ _ (fun j => hpre d _) k
  · unfold inv
    simp only [Memref.view_whole, View.write_whole_univ]
    isplitl [Hx']; · iexact Hx'
    isplitl [Hi']; · iexact Hi'
    iexists fo
    isplitr; · ipureintro; exact fun j hj => absurd hj (Nat.not_lt_zero _)
    iexact Ho'
  iintro %_ HI
  unfold inv
  icases HI with ⟨Hx, Hi, %f, %hf, Ho⟩
  sl_exec
  sl_for (inv d L (fxK m d L 1) (fiK m d L 1)) $$ [Hx Hi Ho]
  case region => exact fun k _ => trip_second d L _ _ (fun j => hpre d _) k
  · unfold inv
    simp only [Memref.view_whole, View.write_whole_univ]
    isplitl [Hx]; · iexact Hx
    isplitl [Hi]; · iexact Hi
    iexists f
    isplitr; · ipureintro; exact fun j hj => absurd hj (Nat.not_lt_zero _)
    iexact Ho
  iintro %_ HI
  unfold inv
  icases HI with ⟨Hx, Hi, %f', %hf', Ho⟩
  sl_exec
  ihave Ho0 := (Entails.of_eq (pts_out m d L 0 _ (tile_body.sl.dma0_2 f) (fun j => hf j (j 0).isLt))) $$ Ho0'
  ihave Ho1 := (Entails.of_eq (pts_out m d L 1 _ (tile_body.sl.dma0_5 f') (fun j => hf' j (j 0).isLt))) $$ Ho1'
  ihave Hx0 := (Entails.of_eq (back_x (F := F) d L 0 0#32 rfl (k0_off1_inb L 0) (m (xLoc d)))) $$ Hx0'
  ihave Hx1 := (Entails.of_eq (back_x (F := F) d L 1 1#32 rfl (k0_off1_inb L 1) (m (xLoc d)))) $$ Hx1'
  ihave Hi0 := (Entails.of_eq (back_i (F := F) d L 0 0#32 rfl (k0_off2_inb L 0) (m (iLoc d)))) $$ Hi0'
  ihave Hi1 := (Entails.of_eq (back_i (F := F) d L 1 1#32 rfl (k0_off2_inb L 1) (m (iLoc d)))) $$ Hi1'
  rw [wp_ret]; imodintro
  isplitl [Ho0 Ho1 Hx0 Hx1 Hi0 Hi1]
  · isplitl [Hx0 Hi0 Ho0]
    · isplitl [Hx0]; · iexact Hx0
      isplitl [Hi0]; · iexact Hi0
      iexact Ho0
    · isplitl [Hx1]; · iexact Hx1
      isplitl [Hi1]; · iexact Hi1
      iexact Ho1
  isplitl [Hx Hi Ho Hbufs]
  · isplitl [Hx Hi Ho]
    · isplitl [Hx]; · iexists _; iexact Hx
      isplitl [Hi]; · iexists _; iexact Hi
      iexists _; iexact Ho
    · iexact Hbufs
  isplitl [Hsem0 Hsem1 Hsem2 Hsem3 Hsem4 Hsem5 Hsems]
  · isplitl [Hsem0 Hsem1 Hsem2 Hsem3 Hsem4 Hsem5]
    · isplitl [Hsem0]; · iexact Hsem0
      isplitl [Hsem1]; · iexact Hsem1
      isplitl [Hsem2]; · iexact Hsem2
      isplitl [Hsem3]; · iexact Hsem3
      isplitl [Hsem4]; · iexact Hsem4
      iexact Hsem5
    · iexact Hsems
  iexists _
  isplitr
  rotate_left
  · iexact HO
  ipureintro
  intro p hp
  simp only [Finset.mem_insert] at hp
  rcases hp with rfl | rfl | rfl | rfl | rfl | rfl | hp
  · exact .inr rfl
  · exact .inr rfl
  · exact .inr rfl
  · exact .inr rfl
  · exact .inr rfl
  · exact .inr rfl
  · exact .inl hp

end Tile

end Cert.Proof.KernelIdealRun

end
-- ==== Proof.KernelIdealLaunch.lean ====
/-
  `KernelIdeal` from launch to end, at any float instance. The three arrays fall into 64 rows, row `4 s + 2 c + r` for the
  `r`-th row of the task on subcore `s` of SparseCore `c`; the TensorCore hands each SparseCore its tasks' rows, each
  task its own two, and takes them back with the result's rows gathered (`KernelIdealTile`), which joined are the whole
  result. `run_main`: every execution ends with the arguments unchanged, the result at `G` and all semaphores at zero.
-/
module

public import proofs.«01_k».proof.Proof.KernelIdealTile

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The rows, by task -/

/-- Row `b` of the three arrays, the result's at `f`. -/
abbrev rowPts (d : Dev nD) (f : Buf (Elt F) (oLoc d)) (b : Fin 64) : sProp 𝕄 := iprop(xRowPts m d b ∗ iRowPts m d b ∗ oRowPts d b f)
/-- The two rows of the task on subcore `s` of SparseCore `c`. -/
abbrev taskPts (d : Dev nD) (f : Buf (Elt F) (oLoc d)) (c : Fin 2) (s : Fin 16) : sProp 𝕄 :=
  iprop(rowPts m d f (rowOf c s 0) ∗ rowPts m d f (rowOf c s 1))
/-- The rows of a SparseCore's sixteen tasks. -/
abbrev corePts (d : Dev nD) (f : Buf (Elt F) (oLoc d)) (c : Fin 2) : sProp 𝕄 := bigSep Finset.univ fun s : Fin 16 => taskPts m d f c s

/-- Every row is one row of one task. -/
def rowEquiv : Fin 2 × Fin 16 × Fin 2 ≃ Fin 64 where
  toFun p := rowOf p.1 p.2.1 p.2.2
  invFun b := (⟨b.val / 2 % 2, by omega⟩, ⟨b.val / 4, by omega⟩, ⟨b.val % 2, by omega⟩)
  left_inv := by
    rintro ⟨c, s, r⟩
    refine Prod.ext (Fin.ext ?_) (Prod.ext (Fin.ext ?_) (Fin.ext ?_))
    · show (4 * s.val + 2 * c.val + r.val) / 2 % 2 = c.val; omega
    · show (4 * s.val + 2 * c.val + r.val) / 4 = s.val; omega
    · show (4 * s.val + 2 * c.val + r.val) % 2 = r.val; omega
  right_inv b := by
    refine Fin.ext ?_
    show 4 * (b.val / 4) + 2 * (b.val / 2 % 2) + b.val % 2 = b.val; omega

theorem xPts_rows (d : Dev nD) (f : Buf (Elt F) (xLoc d)) :
    (xLoc d ↦{fullShare} f : sProp 𝕄) = bigSep Finset.univ fun b : Fin 64 => xLoc d ↦[(xRow b).set]{fullShare} f := by
  rw [← pointsTo_biUnion Finset.univ (ℓ := xLoc d) (fun b : Fin 64 => (xRow b).set) (fun _ _ _ _ h => Rect.part_disjoint hdivX h), Rect.biUnion_part hdivX]
theorem iPts_rows (d : Dev nD) (f : Buf (Elt F) (iLoc d)) :
    (iLoc d ↦{fullShare} f : sProp 𝕄) = bigSep Finset.univ fun b : Fin 64 => iLoc d ↦[(iRow b).set]{fullShare} f := by
  rw [← pointsTo_biUnion Finset.univ (ℓ := iLoc d) (fun b : Fin 64 => (iRow b).set) (fun _ _ _ _ h => Rect.part_disjoint hdivI h), Rect.biUnion_part hdivI]
theorem oPts_rows (d : Dev nD) (f : Buf (Elt F) (oLoc d)) :
    (oLoc d ↦{fullShare} f : sProp 𝕄) = bigSep Finset.univ fun b : Fin 64 => oLoc d ↦[(iRow b).set]{fullShare} f := by
  rw [← pointsTo_biUnion Finset.univ (ℓ := oLoc d) (fun b : Fin 64 => (iRow b).set) (fun _ _ _ _ h => Rect.part_disjoint hdivI h), Rect.biUnion_part hdivI]

/-- The three arrays whole are the two SparseCores' rows. -/
theorem cores_eq (d : Dev nD) (f : Buf (Elt F) (oLoc d)) :
    (bigSep Finset.univ fun c : Fin 2 => corePts m d f c)
      = iprop((xLoc d ↦{fullShare} m (xLoc d)) ∗ (iLoc d ↦{fullShare} m (iLoc d)) ∗ oLoc d ↦{fullShare} f) := by
  rw [xPts_rows, iPts_rows, oPts_rows, ← bigSep_sep', ← bigSep_sep']
  rw [bigSep_univ_equiv rowEquiv (fun b => rowPts m d f b), bigSep_univ_prod]
  refine bigSep_congr fun c _ => ?_
  rw [bigSep_univ_prod]
  exact bigSep_congr fun s _ => (bigSep_fin_two fun r : Fin 2 => rowPts m d f (rowOf c s r)).symm

/-! ## What passes between the processors -/

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => corePts m d (m (oLoc d)) (Fin.cast nCore_zero c)
  dn := fun q d c => match q with | 0 => corePts m d (G m d) (Fin.cast nCore_zero c)
  go := fun q d c i => match q with | 0 => taskPts m d (m (oLoc d)) (Fin.cast nCore_zero c) (Fin.cast nSub_zero i)
  td := fun q d c i => match q with | 0 => taskPts m d (G m d) (Fin.cast nCore_zero c) (Fin.cast nSub_zero i)
  x := fun _ _ => iprop(emp)

instance P_storable : (P (F := F) m).IsStorable where
  st q d c := match q with
    | 0 => (inferInstance : BI.Storable (upEmb : UEmb _ 𝕄) (corePts m d (m (oLoc d)) (Fin.cast nCore_zero c)))
  dn q d c := match q with
    | 0 => (inferInstance : BI.Storable (upEmb : UEmb _ 𝕄) (corePts m d (G m d) (Fin.cast nCore_zero c)))
  go q d c i := match q with
    | 0 => (inferInstance : BI.Storable (upEmb : UEmb _ 𝕄) (taskPts m d (m (oLoc d)) (Fin.cast nCore_zero c) (Fin.cast nSub_zero i)))
  td q d c i := match q with
    | 0 => (inferInstance : BI.Storable (upEmb : UEmb _ 𝕄) (taskPts m d (G m d) (Fin.cast nCore_zero c) (Fin.cast nSub_zero i)))

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          (.whole main_arg0_scv) (Memref.isWhole_whole _) (.whole main_arg2_scv) (Memref.isWhole_whole _) (.whole main_v0_scv) (Memref.isWhole_whole _)
          (.whole cc0_scratch0) (Memref.isWhole_whole _) (.whole cc0_scratch1) (Memref.isWhole_whole _) (.whole cc0_scratch2) (Memref.isWhole_whole _)
          cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

omit [FloatOps F] in
/-- A SparseCore's rows are its tasks' rows: nothing changes hands but the names. -/
theorem vecSplit : (K (F := F)).VecSplit' (P m) 0 := by
  intro d c
  show corePts m d (m (oLoc d)) (Fin.cast nCore_zero c) ⊢ |={Set.univ}=> iprop(
      corePts m d (m (oLoc d)) (Fin.cast nCore_zero c)
      ∗ (corePts m d (G m d) (Fin.cast nCore_zero c) -∗ corePts m d (G m d) (Fin.cast nCore_zero c)))
  iintro H; imodintro
  isplitl [H]; · iexact H
  iintro H; iexact H

/-! ## The launch element of the ghost state -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (iLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

omit [FloatOps F] in
theorem st0_eq (d : Dev nD) : (bigSep Finset.univ fun c : Fin ((K (F := F)).nCore 0) => (P m).st 0 d c)
    = iprop((xLoc d ↦{fullShare} m (xLoc d)) ∗ (iLoc d ↦{fullShare} m (iLoc d)) ∗ oLoc d ↦{fullShare} m (oLoc d)) :=
  cores_eq m d (m (oLoc d))
omit [FloatOps F] in
theorem dn0_eq (d : Dev nD) : (bigSep Finset.univ fun c : Fin ((K (F := F)).nCore 0) => (P m).dn 0 d c)
    = iprop((xLoc d ↦{fullShare} m (xLoc d)) ∗ (iLoc d ↦{fullShare} m (iLoc d)) ∗ oLoc d ↦{fullShare} G m d) :=
  cores_eq m d (G m d)

/-- What @main leaves: the arguments at their launch contents, the result gathered. -/
abbrev FIN (d : Dev nD) : sProp 𝕄 :=
  iprop((xLoc d ↦{fullShare} m (xLoc d)) ∗ (aLoc d ↦{fullShare} m (aLoc d)) ∗ (iLoc d ↦{fullShare} m (iLoc d)) ∗ oLoc d ↦{fullShare} G m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ha, Hi, Ho⟩, Hts, -⟩, -⟩
  iapply ((K (F := F)).wp_run (D (F := F)) 𝒱 (EH := EH) (P := P m) κ d 0) $$ [Hst Hx Ha Hi Ho Hb Hts]
  isplitr; · iexact Hctx
  isplitl [Hst]; · iexact Hst
  isplitl [Hx Hi Ho]
  · rw [st0_eq]
    isplitl [Hx]; · iexact Hx
    isplitl [Hi]; · iexact Hi
    iexact Ho
  iintro ⟨Hst, Hdn⟩
  ihave Hdn' := (Entails.of_eq (dn0_eq m d)) $$ Hdn
  icases Hdn' with ⟨Hx, Hi, Ho⟩
  imodintro
  isplitl [Hst]; · iexact Hst
  isplitr [Hb Hts]
  · isplitl [Hx]; · iexact Hx
    isplitl [Ha]; · iexact Ha
    isplitl [Hi]; · iexact Hi
    iexact Ho
  isplitl [Hb] <;> iassumption

def fq (d : Dev nD) (s' : Phys nD τ sig (Elt F)) : Prop :=
  (s'.mem.mem (xLoc d) = m (xLoc d) ∧ s'.mem.mem (aLoc d) = m (aLoc d) ∧ s'.mem.mem (iLoc d) = m (iLoc d)) ∧ s'.mem.mem (oLoc d) = G m d

omit [FloatOps F] in
theorem hfin (d : Dev nD) (s' : Phys nD τ sig (Elt F)) : iprop(FIN m d ∗ SI s') ⊢ (⌜fq m d s'⌝ : sProp 𝕄) := by
  iintro ⟨⟨Hx, Ha, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h3, HSI, -⟩
  ihave H := (SI_pointsTo_agree (st := s') (ℓ := oLoc d) (I := Finset.univ) (q := fullShare) (f := G m d)) $$ [HSI Ho]
  · isplitl [HSI] <;> iassumption
  icases H with %h4
  ipureintro
  exact ⟨⟨funext fun i => h1 i (Finset.mem_univ i), funext fun i => h2 i (Finset.mem_univ i), funext fun i => h3 i (Finset.mem_univ i)⟩,
    funext fun i => h4 i (Finset.mem_univ i)⟩

/-! ## The run -/

def QC : PUnit × MemSt nD τ sig (Elt F) → Prop := fun r =>
  (∀ c : Dev nD, (r.2.mem (xLoc c) = m (xLoc c) ∧ r.2.mem (aLoc c) = m (aLoc c) ∧ r.2.mem (iLoc c) = m (iLoc c)) ∧ r.2.mem (oLoc c) = G m c)
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdealRun

end
-- ==== Proof.Range.lean ====
/-
  The range of the words of `index`: where the function `index_in_range` is 1, every word read without sign is under
  32768, the row length (`words_lt`). `word_slt_zero`, `word_sge_zero`, `word_sle_last`, `word_toInt`: what such a word
  gives in the comparisons the reference makes.
-/
module

public import proofs.«01_k».proof.Proof.Gen.Pre_index_in_range
public import Idealize.ShloMosaic.Lib.ReduceAll
public import Idealize.ShloMosaic.Lib.WordCmp

@[expose] public section

namespace Cert.Proof.Range

open Idealize.ShloMosaic Cert.Pre_index_in_range Cert.Pre_index_in_range.Gen

variable {F : FTy → Type} [FloatOps F]

/-- A word at least 0 and less than 32768, both read signed, is under 32768 read without sign. -/
theorem word_lt {w : BitVec 32} (h0 : 0 ≤ w.toInt) (h1 : w.toInt < 32768) : w.toNat < 32768 := by
  have := w.isLt
  rw [BitVec.toInt_eq_toNat_cond] at h0 h1
  split at h0 <;> omega

theorem word_toInt {w : BitVec 32} (h : w.toNat < 32768) : w.toInt = w.toNat := by
  rw [BitVec.toInt_eq_toNat_cond, if_pos (by omega)]

theorem word_slt_zero {w : BitVec 32} (h : w.toNat < 32768) : IntOp.cmpi .slt w 0#32 ≠ 1#1 := fun e => by
  have h0 := IntOp.cmpi_slt.1 e
  rw [word_toInt h] at h0
  have h1 : (0#32 : BitVec 32).toInt = 0 := rfl
  omega

theorem word_sge_zero {w : BitVec 32} (h : w.toNat < 32768) : IntOp.cmpi .sge w 0#32 = 1#1 := by
  refine IntOp.cmpi_sge.2 ?_
  rw [word_toInt h]
  exact Int.natCast_nonneg _

theorem word_sle_last {w : BitVec 32} (h : w.toNat < 32768) : IntOp.cmpi .sle w 32767#32 = 1#1 := by
  refine IntOp.cmpi_sle.2 ?_
  rw [word_toInt h]
  have h1 : (32767#32 : BitVec 32).toInt = 32767 := rfl
  omega

theorem words_lt (x : FVec F S64x32768 .f32) (a : FVec F S64x2048 .f32) (i : IVec S64x2048 32)
    (h : fn x a i = fun _ => 1#1) (j : S64x2048.Idx) : (i j).toNat < 32768 := by
  have : Subsingleton S_.Idx := ⟨fun p q => funext fun k => k.elim0⟩
  have e := Host.reduce_andi_all _ _ _ _ _ (congrFun h (Shape.Idx.first h_S_)) j
  obtain ⟨e0, e1⟩ := IntOp.andi_eq_one.1 e
  have h0 := IntOp.cmpi_sge.1 e0
  have h1 := IntOp.cmpi_slt.1 e1
  exact word_lt h0 h1

end Cert.Proof.Range
-- ==== Proof.ReferenceValue.lean ====
/-
  The reference's result, element by element. Its text adds 32768 to a negative word of `index`, reads the element of
  the row at the word clamped into the row, and puts a not-a-number where the word is still out of the row. Where every
  word is under 32768 none of this acts, and element `j` is the element of row `j 0` at the word itself
  (`gathered_apply`). `run_gathered` and `run_quiescent` are the program's run.
-/
module

public import proofs.«01_k».proof.Proof.Range
public import proofs.«01_k».proof.Proof.Gen.ReferenceIdeal.Run
public import Idealize.ShloMosaic.Lib.ValueLayout

@[expose] public section

noncomputable section

namespace Cert.Proof.ReferenceValue

open Cert.ReferenceIdeal Cert.ReferenceIdeal.Gen
open Idealize.ShloMosaic Idealize.ShloMosaic.ValueIdx Idealize.ShloMosaic.TcCoe Idealize.SL.Sem
open Cert.Proof.Range

variable {F : FTy → Type} [FloatOps F]

/-- The words with the row length added to the negative ones. -/
def wrapped (i : IVec S64x2048 32) : IVec S64x2048 32 :=
  select (cmpi .slt i (broadcastInDim S64x2048 ![] bcast_S_S64x2048 (constantI S_ 32 0#32)))
    (addi i (broadcastInDim S64x2048 ![] bcast_S_S64x2048 (constantI S_ 32 32768#32))) i

/-- The words as the gather takes them: each an index vector of one component. -/
def column (i : IVec S64x2048 32) : IVec S64x2048x1 32 := shapeCast _ (wrapped i) shapeCasts_S64x2048_S64x2048x1

/-- Whether the word of each element lies in the row. -/
def inRow (i : IVec S64x2048 32) : IVec S64x2048 1 :=
  Host.reduce IntOp.andi
    (andi (cmpi .sge (column i) (broadcastInDim S64x2048x1 ![] bcast_S_S64x2048x1 (constantI S_ 32 0#32)))
      (cmpi .sle (column i) (broadcastInDim S64x2048x1 ![0, 1, 2] bcast_S1x1x1_S64x2048x1_0_1_2
        (broadcastInDim S1x1x1 ![2] bcast_S1_S1x1x1_2 (constantI S1 32 32767#32)))))
    (constantI S_ 1 1#1) reducesTo_S64x2048x1_S64x2048_d2 h_S_

/-- The reference's result. -/
def gathered (x : FVec F S64x32768 .f32) (i : IVec S64x2048 32) : FVec F S64x2048 .f32 :=
  select (inRow i) (Host.gather gather_S64x32768_S64x2048x1_S64x2048_n_1_0_0_1_2_11 x (column i))
    (broadcastInDim S64x2048 ![] bcast_S_S64x2048 (constant S_ .f32 0x7FC00000#32))

variable (i : IVec S64x2048 32) (hi : ∀ j, (i j).toNat < 32768)

include hi

theorem wrapped_eq : wrapped i = i := by
  funext j
  exact if_neg (word_slt_zero (hi j))

theorem column_lt (k : S64x2048x1.Idx) : (column i k).toNat < 32768 := by
  unfold column
  rw [wrapped_eq i hi]
  exact hi _

theorem column_ix3 (p : Fin 64) (q : Fin 2048) : column i (ix3 p q (0 : Fin 1)) = i (ix2 p q) := by
  unfold column
  rw [wrapped_eq i hi]
  refine congrArg i (Shape.reshapeEquiv_eq_of_rowMajor _ ?_)
  rw [Shape.rowMajor_val_three, Shape.rowMajor_val_two]
  show p.val * 2048 + q.val = (p.val * 2048 + q.val) * 1 + 0
  omega

theorem inRow_eq (j : S64x2048.Idx) : inRow i j = 1#1 :=
  Host.reduce_andi_one _ _ _ _ j rfl fun k =>
    IntOp.andi_eq_one.2 ⟨word_sge_zero (column_lt i hi k), word_sle_last (column_lt i hi k)⟩

/-- The gather's element `(p, q)` is the element of row `p` at the word of `(p, q)`. -/
theorem gather_ix2 (x : FVec F S64x32768 .f32) (p : Fin 64) (q : Fin 2048) :
    Host.gather gather_S64x32768_S64x2048x1_S64x2048_n_1_0_0_1_2_11 x (column i) (ix2 p q)
      = x (ix2 p ⟨(i (ix2 p q)).toNat, hi _⟩) := by
  unfold Host.gather
  refine congrArg x (funext fun a => Fin.ext ?_)
  have hs : gather_S64x32768_S64x2048x1_S64x2048_n_1_0_0_1_2_11.siIdx (ix2 p q) ⟨0, by decide⟩ = ix3 p q (0 : Fin 1) := by
    funext b
    match b with
    | 0 => rfl
    | 1 => rfl
    | 2 => rfl
  match a with
  | 0 =>
    show gather_S64x32768_S64x2048x1_S64x2048_n_1_0_0_1_2_11.start (ix2 p q) (column i) 0
        + gather_S64x32768_S64x2048x1_S64x2048_n_1_0_0_1_2_11.batchCoord (ix2 p q) 0
        + gather_S64x32768_S64x2048x1_S64x2048_n_1_0_0_1_2_11.offCoord (ix2 p q) 0 = p.val
    rw [GatherDims.start_batching _ _ _ _ (List.mem_singleton.2 rfl),
      GatherDims.offCoord_eq_zero _ _ _ (fun h => ((GatherDims.mem_sKept _ _).1 h).2 (List.mem_singleton.2 rfl)), Nat.zero_add, Nat.add_zero]
    rfl
  | 1 =>
    show min (column i (gather_S64x32768_S64x2048x1_S64x2048_n_1_0_0_1_2_11.siIdx (ix2 p q) ⟨0, _⟩)).toInt.toNat 32767 + 0 + 0
      = (i (ix2 p q)).toNat
    rw [hs, column_ix3 i hi, word_toInt (hi _)]
    have := hi (ix2 p q)
    omega

theorem gathered_ix2 (x : FVec F S64x32768 .f32) (p : Fin 64) (q : Fin 2048) :
    gathered x i (ix2 p q) = x (ix2 p ⟨(i (ix2 p q)).toNat, hi _⟩) := by
  unfold gathered select
  rw [inRow_eq i hi, gather_ix2 i hi]
  exact if_pos rfl

omit hi

/-- `gathered` at `j`, where `k` names the element of row `j 0` at the word of `j`. -/
theorem gathered_apply (hi : ∀ j, (i j).toNat < 32768) (x : FVec F S64x32768 .f32) (j : S64x2048.Idx) (k : S64x32768.Idx)
    (h0 : (k 0).val = (j 0).val) (h1 : (k 1).val = (i j).toNat) : gathered x i j = x k := by
  obtain ⟨p, q, rfl⟩ : ∃ p q, j = ix2 p q := ⟨_, _, eq_ix2 j⟩
  rw [gathered_ix2 i hi]
  refine congrArg x (funext fun a => Fin.ext ?_)
  match a with
  | 0 => exact h0.symm
  | 1 => exact h1.symm

/-! ## The run -/

variable (m : (ℓ : Loc nD τ sig) → Buf (Elt F) ℓ) (ρ : Dev nD → PrngReg)

/-- The run's result is `gathered` of the arguments, which end unchanged. -/
theorem run_gathered :
    θ_run defs (onTc (τ := τ) (main (F := F))) ⟨m, fun _ => 0, ρ⟩ fun r => ∀ c : Dev nD,
      r.2.mem ((c.tc : Thread nD τ).loc main_v0) = gathered (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

/-- The arguments end unchanged; the program has no semaphore, so all counters read zero. -/
theorem run_quiescent :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems rfl r.2⟩) (run_gathered m ρ)

end Cert.Proof.ReferenceValue

end
-- ==== Proof.lean ====
/-
  The proof of `Cert.Claim`. The kernel's frames, at either float instance, are its run (`KernelLaunch`,
  `KernelIdealLaunch`) under the range that `index_in_range` gives (`Range`); the reference's frames are its run
  (`ReferenceValue`). Nothing was rewritten between the two kernels, so `preserves` is trivial. The value claim: both
  results are, element by element, the element of `x`'s row that `index` names.
-/
module

public import proofs.«01_k».proof.Defs
public import proofs.«01_k».proof.Proof.KernelLaunch
public import proofs.«01_k».proof.Proof.KernelIdealLaunch
public import proofs.«01_k».proof.Proof.ReferenceValue
public import proofs.«01_k».proof.Proof.Gen.Pre_index_in_range
public import Idealize.ShloMosaic.Adequacy
public import Idealize.ShloMosaic.Init

@[expose] public section

noncomputable section

namespace Cert.Proof

open Idealize.ShloMosaic Idealize.SL.Sem

theorem kernel_ok (m : (ℓ : Loc Cert.Kernel.nD Cert.Kernel.τ Cert.Kernel.sig) → Buf (Elt Bits) ℓ)
    (h : Cert.Pre_Kernel (hPre_index_in_range := Cert.Pre_index_in_range.Gen.facts) m) : KernelRun.PreOK m := fun d j =>
  Range.words_lt _ _ _ (h d) j

theorem kernelIdeal_ok (m : (ℓ : Loc Cert.KernelIdeal.nD Cert.KernelIdeal.τ Cert.KernelIdeal.sig) → Buf (Elt Ideal) ℓ)
    (h : Cert.Pre_KernelIdeal (hPre_index_in_range := Cert.Pre_index_in_range.Gen.facts) m) : KernelIdealRun.PreOK m := fun d j =>
  Range.words_lt _ _ _ (h d) j

theorem frame_kernel : Cert.quiescent_Kernel (hKernel := Cert.Kernel.Gen.facts) (hPre_index_in_range := Cert.Pre_index_in_range.Gen.facts) :=
  fun m g h => (θ_run Cert.Kernel.defs _ _).mono (fun _ q => ⟨fun c => (q.1 c).1, q.2⟩) (KernelRun.run_main m g (kernel_ok m h))

theorem frame_kernelIdeal :
    Cert.quiescent_KernelIdeal (hKernelIdeal := Cert.KernelIdeal.Gen.facts) (hPre_index_in_range := Cert.Pre_index_in_range.Gen.facts) :=
  fun m g h => (θ_run Cert.KernelIdeal.defs _ _).mono (fun _ q => ⟨fun c => (q.1 c).1, q.2⟩) (KernelIdealRun.run_main m g (kernelIdeal_ok m h))

/-- The reference's result, from a memory with the kernel's `x` and `index`, is the kernel's. -/
theorem gathered_eq (m : (ℓ : Loc Cert.KernelIdeal.nD Cert.KernelIdeal.τ Cert.KernelIdeal.sig) → Buf (Elt Ideal) ℓ)
    (hm : KernelIdealRun.PreOK m) (c : Dev Cert.KernelIdeal.nD) :
    ReferenceValue.gathered (F := Ideal) (m (KernelIdealRun.xLoc c)) (m (KernelIdealRun.iLoc c)) = KernelIdealRun.G m c := by
  funext j
  exact ReferenceValue.gathered_apply (F := Ideal) (m (KernelIdealRun.iLoc c)) (hm c) (m (KernelIdealRun.xLoc c)) j
    (KernelIdealRun.cell (j 0) (m (KernelIdealRun.iLoc c) j)) rfl (Nat.mod_eq_of_lt (hm c j))

theorem value : Cert.algebraic_KernelIdeal_ReferenceIdeal (hKernelIdeal := Cert.KernelIdeal.Gen.facts)
    (hReferenceIdeal := Cert.ReferenceIdeal.Gen.facts) (hPre_index_in_range := Cert.Pre_index_in_range.Gen.facts) :=
  fun m g m' g' h same =>
    ⟨fun c => KernelIdealRun.G m c,
      (θ_run Cert.KernelIdeal.defs _ _).mono (fun _ q c => ⟨(q.1 c).2, (q.1 c).1⟩) (KernelIdealRun.run_main m g (kernelIdeal_ok m h)),
      (θ_run Cert.ReferenceIdeal.defs _ _).mono
        (fun _ q c => ⟨((q c).1.trans (congrArg₂ ReferenceValue.gathered (same c).1 (same c).2.2)).trans (gathered_eq m (kernelIdeal_ok m h) c), (q c).2⟩)
        (ReferenceValue.run_gathered m' g')⟩

theorem claim : Cert.Claim :=
  ⟨Cert.Kernel.Gen.facts, Cert.KernelIdeal.Gen.facts, Cert.ReferenceIdeal.Gen.facts, Cert.Pre_index_in_range.Gen.facts,
    frame_kernel, frame_kernelIdeal,
    fun m g _ => ReferenceValue.run_quiescent m g, fun m g _ => ReferenceValue.run_quiescent m g,
    trivial, value⟩

end Cert.Proof

end
